-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_is_one [hPre_mask_is_one : Cert.Pre_mask_is_one.Facts] (m : (ℓ : Loc Cert.KernelIdeal.nD Cert.KernelIdeal.τ Cert.KernelIdeal.sig) → Buf (Elt Ideal) ℓ) : Prop :=
  ∀ c : Dev Cert.KernelIdeal.nD,
    (Cert.Pre_mask_is_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_is_one [hPre_mask_is_one : Cert.Pre_mask_is_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_is_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_mask_is_one [hKernelIdeal : Cert.KernelIdeal.Facts] [hPre_mask_is_one : Cert.Pre_mask_is_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_is_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_mask_is_one [hReferenceIdeal : Cert.ReferenceIdeal.Facts] [hPre_mask_is_one : Cert.Pre_mask_is_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_is_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_mask_is_one [hKernelIdeal : Cert.KernelIdeal.Facts] [hReferenceIdeal : Cert.ReferenceIdeal.Facts] [hPre_mask_is_one : Cert.Pre_mask_is_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_is_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_mask_is_one : Cert.Pre_mask_is_one.Facts),
    quiescent_Kernel (hKernel := hKernel)
    ∧ quiescent_KernelIdeal (hKernelIdeal := hKernelIdeal)
    ∧ quiescent_KernelIdeal_pre_mask_is_one (hKernelIdeal := hKernelIdeal) (hPre_mask_is_one := hPre_mask_is_one)
    ∧ quiescent_ReferenceIdeal (hReferenceIdeal := hReferenceIdeal)
    ∧ quiescent_ReferenceIdeal_pre_mask_is_one (hReferenceIdeal := hReferenceIdeal) (hPre_mask_is_one := hPre_mask_is_one)
    ∧ preserves_Kernel_KernelIdeal
    ∧ algebraic_KernelIdeal_ReferenceIdeal_pre_mask_is_one (hKernelIdeal := hKernelIdeal) (hReferenceIdeal := hReferenceIdeal) (hPre_mask_is_one := hPre_mask_is_one)
-- ==== Pre_mask_is_one.lean ====
abbrev S16x512x512x16 : Shape := ⟨4, ![16, 512, 512, 16]⟩
abbrev S16x512x512 : Shape := ⟨3, ![16, 512, 512]⟩
abbrev S16x32x512 : Shape := ⟨3, ![16, 32, 512]⟩
abbrev S_ : Shape := ⟨0, ![]⟩

class Facts : Prop where
  bcast_S_S16x512x512 : S_.BroadcastsInDim S16x512x512 (![] : Fin 0 → Fin S16x512x512.rank)

variable [Facts]

def fn {F : FTy → Type} [FloatOps F] (main_arg0 : FVec F S16x512x512x16 .f32) (main_arg1 : FVec F S16x512x512x16 .f32) (main_arg2 : FVec F S16x512x512 .f32) (main_arg3 : FVec F S16x32x512 .f32) : IVec S16x512x512 1 :=
  let main_cst : FVec F S_ .f32 := constant S_ .f32 0x3F800000#32
  let main_v0 : FVec F S16x512x512 .f32 := broadcastInDim S16x512x512 ![] bcast_S_S16x512x512 main_cst
  let main_v1 : IVec S16x512x512 1 := cmpf .oeq main_arg2 main_v0
  main_v1
-- ==== Kernel.lean ====
abbrev S16x512x512x16 : Shape := ⟨4, ![16, 512, 512, 16]⟩
abbrev S16x512x512 : Shape := ⟨3, ![16, 512, 512]⟩
abbrev S16x32x512 : Shape := ⟨3, ![16, 32, 512]⟩
abbrev S16x512x16x512 : Shape := ⟨4, ![16, 512, 16, 512]⟩
abbrev S16x512x32 : Shape := ⟨3, ![16, 512, 32]⟩
abbrev S1x1 : Shape := ⟨2, ![1, 1]⟩
abbrev S16x32x32x16 : Shape := ⟨4, ![16, 32, 32, 16]⟩
abbrev S1x256x16x512 : Shape := ⟨4, ![1, 256, 16, 512]⟩
abbrev S1x256x32 : Shape := ⟨3, ![1, 256, 32]⟩
abbrev S1x32x512 : Shape := ⟨3, ![1, 32, 512]⟩
abbrev S1x32x32x16 : Shape := ⟨4, ![1, 32, 32, 16]⟩
abbrev S16x512 : Shape := ⟨2, ![16, 512]⟩
abbrev S32x16x512 : Shape := ⟨3, ![32, 16, 512]⟩
abbrev S256x16x512 : Shape := ⟨3, ![256, 16, 512]⟩
abbrev S256x32 : Shape := ⟨2, ![256, 32]⟩
abbrev S256x1 : Shape := ⟨2, ![256, 1]⟩
abbrev S1x16x512 : Shape := ⟨3, ![1, 16, 512]⟩
abbrev S32x512 : Shape := ⟨2, ![32, 512]⟩
abbrev S32x32x16 : Shape := ⟨3, ![32, 32, 16]⟩
abbrev S1 : Shape := ⟨1, ![1]⟩
abbrev S1x1x1 : Shape := ⟨3, ![1, 1, 1]⟩
abbrev S_ : Shape := ⟨0, ![]⟩

abbrev nBuf : Space → Nat
  | .hbm => 13
  | .vmem => 16
  | .smem => 0
  | _ => 0

abbrev bufTy : (tb : Table) → Fin (tcTables nBuf tb) → BufTy
  | .hbm, ⟨0, _⟩ => ⟨S16x512x512x16, .f32⟩
  | .hbm, ⟨1, _⟩ => ⟨S16x512x512x16, .f32⟩
  | .hbm, ⟨2, _⟩ => ⟨S16x512x512, .f32⟩
  | .hbm, ⟨3, _⟩ => ⟨S16x32x512, .f32⟩
  | .hbm, ⟨4, _⟩ => ⟨S16x512x16x512, .f32⟩
  | .hbm, ⟨5, _⟩ => ⟨S16x512x16x512, .f32⟩
  | .hbm, ⟨6, _⟩ => ⟨S16x512x32, .f32⟩
  | .hbm, ⟨7, _⟩ => ⟨S1x1, .f32⟩
  | .hbm, ⟨8, _⟩ => ⟨S16x32x32x16, .f32⟩
  | .hbm, ⟨9, _⟩ => ⟨S16x32x32x16, .f32⟩
  | .hbm, ⟨10, _⟩ => ⟨S_, .f32⟩
  | .hbm, ⟨11, _⟩ => ⟨S16x32x32x16, .f32⟩
  | .hbm, ⟨12, _⟩ => ⟨S16x32x32x16, .f32⟩
  | .local _ .vmem, ⟨0, _⟩ => ⟨S1x256x16x512, .f32⟩
  | .local _ .vmem, ⟨1, _⟩ => ⟨S1x256x16x512, .f32⟩
  | .local _ .vmem, ⟨2, _⟩ => ⟨S1x256x16x512, .f32⟩
  | .local _ .vmem, ⟨3, _⟩ => ⟨S1x256x16x512, .f32⟩
  | .local _ .vmem, ⟨4, _⟩ => ⟨S1x256x32, .f32⟩
  | .local _ .vmem, ⟨5, _⟩ => ⟨S1x256x32, .f32⟩
  | .local _ .vmem, ⟨6, _⟩ => ⟨S1x32x512, .f32⟩
  | .local _ .vmem, ⟨7, _⟩ => ⟨S1x32x512, .f32⟩
  | .local _ .vmem, ⟨8, _⟩ => ⟨S1x1, .f32⟩
  | .local _ .vmem, ⟨9, _⟩ => ⟨S1x32x32x16, .f32⟩
  | .local _ .vmem, ⟨10, _⟩ => ⟨S1x32x32x16, .f32⟩
  | .local _ .vmem, ⟨11, _⟩ => ⟨S1x32x32x16, .f32⟩
  | .local _ .vmem, ⟨12, _⟩ => ⟨S1x32x32x16, .f32⟩
  | .local _ .vmem, ⟨13, _⟩ => ⟨S16x512, .f32⟩
  | .local _ .vmem, ⟨14, _⟩ => ⟨S32x16x512, .f32⟩
  | .local _ .vmem, ⟨15, _⟩ => ⟨S32x16x512, .f32⟩
  | _, _ => ⟨S16x512x512x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 2], ![false, false]⟩

def k0_cond5 (i : grid0.Coords) : BitVec 1 :=
  let arg0 : BitVec 32 := BitVec.ofNat 32 (i 0).val
  let c15_i32 : BitVec 32 := 15#32
  let v48 : BitVec 1 := Scalar.cmpi .eq arg0 c15_i32
  let arg1 : BitVec 32 := BitVec.ofNat 32 (i 1).val
  let c1_i32_27 : BitVec 32 := 1#32
  let v49 : BitVec 1 := Scalar.cmpi .eq arg1 c1_i32_27
  let v50 : BitVec 1 := Scalar.andi v48 v49
  let v51 : BitVec 32 := Scalar.extui v50
  let c0_i32_28 : BitVec 32 := 0#32
  let v52 : BitVec 1 := Scalar.cmpi .ne v51 c0_i32_28
  v52

def k0_cond4 (i : grid0.Coords) : BitVec 1 :=
  let arg1 : BitVec 32 := BitVec.ofNat 32 (i 1).val
  let c1_i32 : BitVec 32 := 1#32
  let v45 : BitVec 1 := Scalar.cmpi .eq arg1 c1_i32
  let v46 : BitVec 32 := Scalar.extui v45
  let c0_i32_26 : BitVec 32 := 0#32
  let v47 : BitVec 1 := Scalar.cmpi .ne v46 c0_i32_26
  v47

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x32x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x32x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16x512x512x16 : Shape := ⟨4, ![16, 512, 512, 16]⟩
abbrev S16x512x512 : Shape := ⟨3, ![16, 512, 512]⟩
abbrev S16x32x512 : Shape := ⟨3, ![16, 32, 512]⟩
abbrev S_ : Shape := ⟨0, ![]⟩
abbrev S16x512x512x1 : Shape := ⟨4, ![16, 512, 512, 1]⟩
abbrev S16x32x512x16 : Shape := ⟨4, ![16, 32, 512, 16]⟩
abbrev S16x32x16x32 : Shape := ⟨4, ![16, 32, 16, 32]⟩
abbrev S16x32x32x16 : Shape := ⟨4, ![16, 32, 32, 16]⟩

abbrev nBuf : Space → Nat
  | .hbm => 41
  | .vmem => 0
  | .smem => 0
  | _ => 0

abbrev bufTy : (tb : Table) → Fin (tcTables nBuf tb) → BufTy
  | .hbm, ⟨0, _⟩ => ⟨S16x512x512x16, .f32⟩
  | .hbm, ⟨1, _⟩ => ⟨S16x512x512x16, .f32⟩
  | .hbm, ⟨2, _⟩ => ⟨S16x512x512, .f32⟩
  | .hbm, ⟨3, _⟩ => ⟨S16x32x512, .f32⟩
  | .hbm, ⟨4, _⟩ => ⟨S_, .f32⟩
  | .hbm, ⟨5, _⟩ => ⟨S16x512x512x16, .f32⟩
  | .hbm, ⟨6, _⟩ => ⟨S16x512x512x16, .f32⟩
  | .hbm, ⟨7, _⟩ => ⟨S16x512x512x16, .f32⟩
  | .hbm, ⟨8, _⟩ => ⟨S16x512x512x16, .f32⟩
  | .hbm, ⟨9, _⟩ => ⟨S16x512x512x16, .f32⟩
  | .hbm, ⟨10, _⟩ => ⟨S16x512x512x16, .f32⟩
  | .hbm, ⟨11, _⟩ => ⟨S16x512x512x16, .f32⟩
  | .hbm, ⟨12, _⟩ => ⟨S16x512x512x16, .f32⟩
  | .hbm, ⟨13, _⟩ => ⟨S16x512x512x16, .f32⟩
  | .hbm, ⟨14, _⟩ => ⟨S16x512x512x1, .f32⟩
  | .hbm, ⟨15, _⟩ => ⟨S16x512x512x16, .f32⟩
  | .hbm, ⟨16, _⟩ => ⟨S16x512x512x16, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16x32x512x16, .f32⟩
  | .hbm, ⟨24, _⟩ => ⟨S16x32x16x32, .f32⟩
  | .hbm, ⟨25, _⟩ => ⟨S16x32x32x16, .f32⟩
  | .hbm, ⟨26, _⟩ => ⟨S_, .f32⟩
  | .hbm, ⟨27, _⟩ => ⟨S16x32x32x16, .f32⟩
  | .hbm, ⟨28, _⟩ => ⟨S16x32x32x16, .i1⟩
  | .hbm, ⟨29, _⟩ => ⟨S16x32x32x16, .f32⟩
  | .hbm, ⟨30, _⟩ => ⟨S_, .f32⟩
  | .hbm, ⟨31, _⟩ => ⟨S16x512x512x16, .f32⟩
  | .hbm, ⟨32, _⟩ => ⟨S16x512x512x16, .i1⟩
  | .hbm, ⟨33, _⟩ => ⟨S16x512x512x16, .f32⟩
  | .hbm, ⟨34, _⟩ => ⟨S16x32x512x16, .f32⟩
  | .hbm, ⟨35, _⟩ => ⟨S16x32x16x32, .f32⟩
  | .hbm, ⟨36, _⟩ => ⟨S16x32x32x16, .f32⟩
  | .hbm, ⟨37, _⟩ => ⟨S_, .f32⟩
  | .hbm, ⟨38, _⟩ => ⟨S16x32x32x16, .f32⟩
  | .hbm, ⟨39, _⟩ => ⟨S16x32x32x16, .i1⟩
  | .hbm, ⟨40, _⟩ => ⟨S16x32x32x16, .f32⟩
  | _, _ => ⟨S16x512x512x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Pieces.lean ====
/-
  What each of the four kinds of grid point leaves in the kernel's three scratch buffers and in its output blocks, as
  the body's own named values (`Gen.k0_pay·`): the covering stores that the generated run found, read back.

  Kinds of point: A is the first point; B is an odd point other than the last; C is an even point other than the first;
  D is the last point. Scratch 0 is the running loss vector, scratch 1 the partial product of the targets, scratch 2 the
  partial product of the positive scores.
-/
module

public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- Two zero offsets. -/
theorem hz2 : (![0, 0] : Fin 2 → Nat) = fun _ => 0 := funext fun a => by fin_cases a <;> rfl
/-- Three zero offsets. -/
theorem hz3 : (![0, 0, 0] : Fin 3 → Nat) = fun _ => 0 := funext fun a => by fin_cases a <;> rfl
/-- Four zero offsets. -/
theorem hz4 : (![0, 0, 0, 0] : Fin 4 → Nat) = fun _ => 0 := funext fun a => by fin_cases a <;> rfl

variable (c : Dev nD) (i : grid0.Coords)
  (arg2 : Memref sig .tc .vmem S1x256x16x512 .f32) (harg2 : arg2.IsWhole)
  (arg3 : Memref sig .tc .vmem S1x256x16x512 .f32) (harg3 : arg3.IsWhole)
  (arg4 : Memref sig .tc .vmem S1x256x32 .f32) (harg4 : arg4.IsWhole)
  (arg5 : Memref sig .tc .vmem S1x32x512 .f32) (harg5 : arg5.IsWhole)
  (arg6 : Memref sig .tc .vmem S1x1 .f32) (harg6 : arg6.IsWhole)
  (arg7 : Memref sig .tc .vmem S1x32x32x16 .f32) (harg7 : arg7.IsWhole)
  (arg8 : Memref sig .tc .vmem S1x32x32x16 .f32) (harg8 : arg8.IsWhole)
  (arg9 : Memref sig .tc .vmem S16x512 .f32) (harg9 : arg9.IsWhole)
  (arg10 : Memref sig .tc .vmem S32x16x512 .f32) (harg10 : arg10.IsWhole)
  (arg11 : Memref sig .tc .vmem S32x16x512 .f32) (harg11 : arg11.IsWhole)
  (x0 x1 : Vec F S1x256x16x512 .f32) (x2 : Vec F S1x256x32 .f32) (x3 : Vec F S1x32x512 .f32)
  (xs0 : Vec F S16x512 .f32) (xs1 xs2 : Vec F S32x16x512 .f32)

/-- The first point leaves the loss vector at its block's loss added to zero, and starts both partial products. -/
theorem kind_A (h0 : cond0_0 i) (h1 : cond0_1 i) (h2 : ¬cond0_2 i) (h3 : ¬cond0_3 i) (h4 : ¬cond0_4 i) :
    sout0_A_0 c i arg2 harg2 arg3 harg3 arg4 harg4 arg5 harg5 arg6 harg6 arg7 harg7 arg8 harg8 arg9 harg9 arg10 harg10 arg11 harg11 h0 h1 h2 h3 h4 x0 x1 x2 x3 = k0_pay1 (k0_pay15 x0 x1) k0_pay16
    ∧ sout0_A_1 c i arg2 harg2 arg3 harg3 arg4 harg4 arg5 harg5 arg6 harg6 arg7 harg7 arg8 harg8 arg9 harg9 arg10 harg10 arg11 harg11 h0 h1 h2 h3 h4 x0 x1 x2 x3 = k0_pay2 (k0_pay13 x1 x2)
    ∧ sout0_A_2 c i arg2 harg2 arg3 harg3 arg4 harg4 arg5 harg5 arg6 harg6 arg7 harg7 arg8 harg8 arg9 harg9 arg10 harg10 arg11 harg11 h0 h1 h2 h3 h4 x0 x1 x2 x3 = k0_pay3 (k0_pay14 x0 x2) := by
  unfold sout0_A_0 sout0_A_1 sout0_A_2
  refine ⟨(View.read_writes_eq_canon _ _ _ (scover0_A_0 c i arg2 harg2 arg3 harg3 arg4 harg4 arg5 harg5 arg6 harg6 arg7 harg7 arg8 harg8 arg9 harg9 arg10 harg10 arg11 harg11 h0 h1 h2 h3 h4 x0 x1 x2 x3)).trans ?_,
    (View.read_writes_eq_canon _ _ _ (scover0_A_1 c i arg2 harg2 arg3 harg3 arg4 harg4 arg5 harg5 arg6 harg6 arg7 harg7 arg8 harg8 arg9 harg9 arg10 harg10 arg11 harg11 h0 h1 h2 h3 h4 x0 x1 x2 x3)).trans ?_,
    (View.read_writes_eq_canon _ _ _ (scover0_A_2 c i arg2 harg2 arg3 harg3 arg4 harg4 arg5 harg5 arg6 harg6 arg7 harg7 arg8 harg8 arg9 harg9 arg10 harg10 arg11 harg11 h0 h1 h2 h3 h4 x0 x1 x2 x3)).trans ?_⟩
  all_goals
    unfold kernelRun0_A
    dsimp only
    sl_unfold_words
    simp only [View.canon_unit_zero (S := S1x1) hz2, View.canon_unit_zero (S := S16x512) hz2,
      View.canon_unit_zero (S := S32x16x512) hz3, View.canon_unit_zero (S := S1x32x32x16) hz4,
      View.canon_cons_unit_zero (S := S16x512) hz2, View.readCov_unit_zero (S := S16x512) _ hz2,
      View.readCov_unit_zero (S := S32x16x512) _ hz3, View.readAt_eq_ld, harg2.read_unread, harg3.read_unread,
      harg4.read_unread, harg5.read_unread, harg9.read_unread, harg10.read_unread, harg11.read_unread,
      View.ld_unit_zero (S := S1x256x16x512) hz4, View.ld_unit_zero (S := S1x256x32) hz3,
      View.ld_unit_zero (S := S1x32x512) hz3, View.ld_unit_zero (S := S16x512) hz2,
      View.ld_unit_zero (S := S32x16x512) hz3]

/-- An odd point that is not the last adds to what the three scratch buffers held, and fills both score blocks from the finished
    partial products. -/
theorem kind_B (h0 : ¬cond0_0 i) (h1 : ¬cond0_1 i) (h2 : cond0_2 i) (h3 : cond0_3 i) (h4 : ¬cond0_4 i) :
    sout0_B_0 c i arg2 harg2 arg3 harg3 arg4 harg4 arg5 harg5 arg6 harg6 arg7 harg7 arg8 harg8 arg9 harg9 arg10 harg10 arg11 harg11 h0 h1 h2 h3 h4 x0 x1 x2 x3 xs0 xs1 xs2 = k0_pay1 (k0_pay15 x0 x1) xs0
    ∧ sout0_B_1 c i arg2 harg2 arg3 harg3 arg4 harg4 arg5 harg5 arg6 harg6 arg7 harg7 arg8 harg8 arg9 harg9 arg10 harg10 arg11 harg11 h0 h1 h2 h3 h4 x0 x1 x2 x3 xs0 xs1 xs2 = k0_pay4 (k0_pay13 x1 x2) xs1
    ∧ sout0_B_2 c i arg2 harg2 arg3 harg3 arg4 harg4 arg5 harg5 arg6 harg6 arg7 harg7 arg8 harg8 arg9 harg9 arg10 harg10 arg11 harg11 h0 h1 h2 h3 h4 x0 x1 x2 x3 xs0 xs1 xs2 = k0_pay5 (k0_pay14 x0 x2) xs2
    ∧ out0_B_5 c i arg2 harg2 arg3 harg3 arg4 harg4 arg5 harg5 arg6 harg6 arg7 harg7 arg8 harg8 arg9 harg9 arg10 harg10 arg11 harg11 h0 h1 h2 h3 h4 x0 x1 x2 x3 xs0 xs1 xs2 = k0_pay7 x3 (k0_pay4 (k0_pay13 x1 x2) xs1)
    ∧ out0_B_6 c i arg2 harg2 arg3 harg3 arg4 harg4 arg5 harg5 arg6 harg6 arg7 harg7 arg8 harg8 arg9 harg9 arg10 harg10 arg11 harg11 h0 h1 h2 h3 h4 x0 x1 x2 x3 xs0 xs1 xs2 = k0_pay8 x3 (k0_pay5 (k0_pay14 x0 x2) xs2) := by
  unfold sout0_B_0 sout0_B_1 sout0_B_2 out0_B_5 out0_B_6
  refine ⟨(View.read_writes_eq_canon _ _ _ (scover0_B_0 c i arg2 harg2 arg3 harg3 arg4 harg4 arg5 harg5 arg6 harg6 arg7 harg7 arg8 harg8 arg9 harg9 arg10 harg10 arg11 harg11 h0 h1 h2 h3 h4 x0 x1 x2 x3 xs0 xs1 xs2)).trans ?_,
    (View.read_writes_eq_canon _ _ _ (scover0_B_1 c i arg2 harg2 arg3 harg3 arg4 harg4 arg5 harg5 arg6 harg6 arg7 harg7 arg8 harg8 arg9 harg9 arg10 harg10 arg11 harg11 h0 h1 h2 h3 h4 x0 x1 x2 x3 xs0 xs1 xs2)).trans ?_,
    (View.read_writes_eq_canon _ _ _ (scover0_B_2 c i arg2 harg2 arg3 harg3 arg4 harg4 arg5 harg5 arg6 harg6 arg7 harg7 arg8 harg8 arg9 harg9 arg10 harg10 arg11 harg11 h0 h1 h2 h3 h4 x0 x1 x2 x3 xs0 xs1 xs2)).trans ?_,
    (View.read_writes_eq_canon _ _ _ (cover0_B_5 c i arg2 harg2 arg3 harg3 arg4 harg4 arg5 harg5 arg6 harg6 arg7 harg7 arg8 harg8 arg9 harg9 arg10 harg10 arg11 harg11 h0 h1 h2 h3 h4 x0 x1 x2 x3 xs0 xs1 xs2)).trans ?_,
    (View.read_writes_eq_canon _ _ _ (cover0_B_6 c i arg2 harg2 arg3 harg3 arg4 harg4 arg5 harg5 arg6 harg6 arg7 harg7 arg8 harg8 arg9 harg9 arg10 harg10 arg11 harg11 h0 h1 h2 h3 h4 x0 x1 x2 x3 xs0 xs1 xs2)).trans ?_⟩
  all_goals
    unfold kernelRun0_B
    dsimp only
    sl_unfold_words
    simp only [View.canon_unit_zero (S := S1x1) hz2, View.canon_unit_zero (S := S16x512) hz2,
      View.canon_unit_zero (S := S32x16x512) hz3, View.canon_unit_zero (S := S1x32x32x16) hz4,
      View.canon_cons_unit_zero (S := S16x512) hz2, View.readCov_unit_zero (S := S16x512) _ hz2,
      View.readCov_unit_zero (S := S32x16x512) _ hz3, View.readAt_eq_ld, harg2.read_unread, harg3.read_unread,
      harg4.read_unread, harg5.read_unread, harg9.read_unread, harg10.read_unread, harg11.read_unread,
      View.ld_unit_zero (S := S1x256x16x512) hz4, View.ld_unit_zero (S := S1x256x32) hz3,
      View.ld_unit_zero (S := S1x32x512) hz3, View.ld_unit_zero (S := S16x512) hz2,
      View.ld_unit_zero (S := S32x16x512) hz3]

/-- An even point that is not the first adds its block's loss to what the loss vector held, and starts both partial products anew. -/
theorem kind_C (h0 : ¬cond0_0 i) (h1 : cond0_1 i) (h2 : ¬cond0_2 i) (h3 : ¬cond0_3 i) (h4 : ¬cond0_4 i) :
    sout0_C_0 c i arg2 harg2 arg3 harg3 arg4 harg4 arg5 harg5 arg6 harg6 arg7 harg7 arg8 harg8 arg9 harg9 arg10 harg10 arg11 harg11 h0 h1 h2 h3 h4 x0 x1 x2 x3 xs0 = k0_pay1 (k0_pay15 x0 x1) xs0
    ∧ sout0_C_1 c i arg2 harg2 arg3 harg3 arg4 harg4 arg5 harg5 arg6 harg6 arg7 harg7 arg8 harg8 arg9 harg9 arg10 harg10 arg11 harg11 h0 h1 h2 h3 h4 x0 x1 x2 x3 xs0 = k0_pay2 (k0_pay13 x1 x2)
    ∧ sout0_C_2 c i arg2 harg2 arg3 harg3 arg4 harg4 arg5 harg5 arg6 harg6 arg7 harg7 arg8 harg8 arg9 harg9 arg10 harg10 arg11 harg11 h0 h1 h2 h3 h4 x0 x1 x2 x3 xs0 = k0_pay3 (k0_pay14 x0 x2) := by
  unfold sout0_C_0 sout0_C_1 sout0_C_2
  refine ⟨(View.read_writes_eq_canon _ _ _ (scover0_C_0 c i arg2 harg2 arg3 harg3 arg4 harg4 arg5 harg5 arg6 harg6 arg7 harg7 arg8 harg8 arg9 harg9 arg10 harg10 arg11 harg11 h0 h1 h2 h3 h4 x0 x1 x2 x3 xs0)).trans ?_,
    (View.read_writes_eq_canon _ _ _ (scover0_C_1 c i arg2 harg2 arg3 harg3 arg4 harg4 arg5 harg5 arg6 harg6 arg7 harg7 arg8 harg8 arg9 harg9 arg10 harg10 arg11 harg11 h0 h1 h2 h3 h4 x0 x1 x2 x3 xs0)).trans ?_,
    (View.read_writes_eq_canon _ _ _ (scover0_C_2 c i arg2 harg2 arg3 harg3 arg4 harg4 arg5 harg5 arg6 harg6 arg7 harg7 arg8 harg8 arg9 harg9 arg10 harg10 arg11 harg11 h0 h1 h2 h3 h4 x0 x1 x2 x3 xs0)).trans ?_⟩
  all_goals
    unfold kernelRun0_C
    dsimp only
    sl_unfold_words
    simp only [View.canon_unit_zero (S := S1x1) hz2, View.canon_unit_zero (S := S16x512) hz2,
      View.canon_unit_zero (S := S32x16x512) hz3, View.canon_unit_zero (S := S1x32x32x16) hz4,
      View.canon_cons_unit_zero (S := S16x512) hz2, View.readCov_unit_zero (S := S16x512) _ hz2,
      View.readCov_unit_zero (S := S32x16x512) _ hz3, View.readAt_eq_ld, harg2.read_unread, harg3.read_unread,
      harg4.read_unread, harg5.read_unread, harg9.read_unread, harg10.read_unread, harg11.read_unread,
      View.ld_unit_zero (S := S1x256x16x512) hz4, View.ld_unit_zero (S := S1x256x32) hz3,
      View.ld_unit_zero (S := S1x32x512) hz3, View.ld_unit_zero (S := S16x512) hz2,
      View.ld_unit_zero (S := S32x16x512) hz3]

/-- The last point does what an odd point does, and computes the loss from the finished loss vector. -/
theorem kind_D (h0 : ¬cond0_0 i) (h1 : ¬cond0_1 i) (h2 : cond0_2 i) (h3 : cond0_3 i) (h4 : cond0_4 i) :
    sout0_D_0 c i arg2 harg2 arg3 harg3 arg4 harg4 arg5 harg5 arg6 harg6 arg7 harg7 arg8 harg8 arg9 harg9 arg10 harg10 arg11 harg11 h0 h1 h2 h3 h4 x0 x1 x2 x3 xs0 xs1 xs2 = k0_pay1 (k0_pay15 x0 x1) xs0
    ∧ sout0_D_1 c i arg2 harg2 arg3 harg3 arg4 harg4 arg5 harg5 arg6 harg6 arg7 harg7 arg8 harg8 arg9 harg9 arg10 harg10 arg11 harg11 h0 h1 h2 h3 h4 x0 x1 x2 x3 xs0 xs1 xs2 = k0_pay4 (k0_pay13 x1 x2) xs1
    ∧ sout0_D_2 c i arg2 harg2 arg3 harg3 arg4 harg4 arg5 harg5 arg6 harg6 arg7 harg7 arg8 harg8 arg9 harg9 arg10 harg10 arg11 harg11 h0 h1 h2 h3 h4 x0 x1 x2 x3 xs0 xs1 xs2 = k0_pay5 (k0_pay14 x0 x2) xs2
    ∧ out0_D_4 c i arg2 harg2 arg3 harg3 arg4 harg4 arg5 harg5 arg6 harg6 arg7 harg7 arg8 harg8 arg9 harg9 arg10 harg10 arg11 harg11 h0 h1 h2 h3 h4 x0 x1 x2 x3 xs0 xs1 xs2 = k0_pay9 (k0_pay1 (k0_pay15 x0 x1) xs0)
    ∧ out0_D_5 c i arg2 harg2 arg3 harg3 arg4 harg4 arg5 harg5 arg6 harg6 arg7 harg7 arg8 harg8 arg9 harg9 arg10 harg10 arg11 harg11 h0 h1 h2 h3 h4 x0 x1 x2 x3 xs0 xs1 xs2 = k0_pay7 x3 (k0_pay4 (k0_pay13 x1 x2) xs1)
    ∧ out0_D_6 c i arg2 harg2 arg3 harg3 arg4 harg4 arg5 harg5 arg6 harg6 arg7 harg7 arg8 harg8 arg9 harg9 arg10 harg10 arg11 harg11 h0 h1 h2 h3 h4 x0 x1 x2 x3 xs0 xs1 xs2 = k0_pay8 x3 (k0_pay5 (k0_pay14 x0 x2) xs2) := by
  unfold sout0_D_0 sout0_D_1 sout0_D_2 out0_D_4 out0_D_5 out0_D_6
  refine ⟨(View.read_writes_eq_canon _ _ _ (scover0_D_0 c i arg2 harg2 arg3 harg3 arg4 harg4 arg5 harg5 arg6 harg6 arg7 harg7 arg8 harg8 arg9 harg9 arg10 harg10 arg11 harg11 h0 h1 h2 h3 h4 x0 x1 x2 x3 xs0 xs1 xs2)).trans ?_,
    (View.read_writes_eq_canon _ _ _ (scover0_D_1 c i arg2 harg2 arg3 harg3 arg4 harg4 arg5 harg5 arg6 harg6 arg7 harg7 arg8 harg8 arg9 harg9 arg10 harg10 arg11 harg11 h0 h1 h2 h3 h4 x0 x1 x2 x3 xs0 xs1 xs2)).trans ?_,
    (View.read_writes_eq_canon _ _ _ (scover0_D_2 c i arg2 harg2 arg3 harg3 arg4 harg4 arg5 harg5 arg6 harg6 arg7 harg7 arg8 harg8 arg9 harg9 arg10 harg10 arg11 harg11 h0 h1 h2 h3 h4 x0 x1 x2 x3 xs0 xs1 xs2)).trans ?_,
    (View.read_writes_eq_canon _ _ _ (cover0_D_4 c i arg2 harg2 arg3 harg3 arg4 harg4 arg5 harg5 arg6 harg6 arg7 harg7 arg8 harg8 arg9 harg9 arg10 harg10 arg11 harg11 h0 h1 h2 h3 h4 x0 x1 x2 x3 xs0 xs1 xs2)).trans ?_,
    (View.read_writes_eq_canon _ _ _ (cover0_D_5 c i arg2 harg2 arg3 harg3 arg4 harg4 arg5 harg5 arg6 harg6 arg7 harg7 arg8 harg8 arg9 harg9 arg10 harg10 arg11 harg11 h0 h1 h2 h3 h4 x0 x1 x2 x3 xs0 xs1 xs2)).trans ?_,
    (View.read_writes_eq_canon _ _ _ (cover0_D_6 c i arg2 harg2 arg3 harg3 arg4 harg4 arg5 harg5 arg6 harg6 arg7 harg7 arg8 harg8 arg9 harg9 arg10 harg10 arg11 harg11 h0 h1 h2 h3 h4 x0 x1 x2 x3 xs0 xs1 xs2)).trans ?_⟩
  all_goals
    unfold kernelRun0_D
    dsimp only
    sl_unfold_words
    simp only [View.canon_unit_zero (S := S1x1) hz2, View.canon_unit_zero (S := S16x512) hz2,
      View.canon_unit_zero (S := S32x16x512) hz3, View.canon_unit_zero (S := S1x32x32x16) hz4,
      View.canon_cons_unit_zero (S := S16x512) hz2, View.readCov_unit_zero (S := S16x512) _ hz2,
      View.readCov_unit_zero (S := S32x16x512) _ hz3, View.readAt_eq_ld, harg2.read_unread, harg3.read_unread,
      harg4.read_unread, harg5.read_unread, harg9.read_unread, harg10.read_unread, harg11.read_unread,
      View.ld_unit_zero (S := S1x256x16x512) hz4, View.ld_unit_zero (S := S1x256x32) hz3,
      View.ld_unit_zero (S := S1x32x512) hz3, View.ld_unit_zero (S := S16x512) hz2,
      View.ld_unit_zero (S := S32x16x512) hz3]

end Cert.KernelIdeal.Pieces

end
-- ==== Proof.Fold.lean ====
/-
  What the kernel's buffers hold after each grid point, over the blocks the windows read.

  The loss vector after point n is the ordered sum of the blocks' losses at points 0 … n (`lossChain`). The partial products
  of an even point are its own block's; at the odd point after it the result blocks are computed from the two points' blocks.
-/
module

public import proofs.«01_k».proof.Proof.Pieces

@[expose] public section

set_option maxRecDepth 16384

noncomputable section

open Idealize.ShloMosaic Idealize.ShloMosaic.TcCoe Idealize.SL.Sem

namespace Cert.KernelIdeal.Fold

open Cert.KernelIdeal Cert.KernelIdeal.Gen Cert.KernelIdeal.Pieces

variable {F : FTy → Type} [FloatOps F]
variable (m : (ℓ : Loc nD τ sig) → Buf (Elt F) ℓ)

/-- The loss vector after point n: zero, plus each point's block loss in point order. -/
def lossChain (c : Dev nD) : (n : ℕ) → n < cfg0.N → Vec F S16x512 .f32
  | 0, h => k0_pay1 (k0_pay15 (iblk m c 0 ⟨0, h⟩) (iblk m c 1 ⟨0, h⟩)) k0_pay16
  | n + 1, h => k0_pay1 (k0_pay15 (iblk m c 0 ⟨n + 1, h⟩) (iblk m c 1 ⟨n + 1, h⟩)) (lossChain c n (Nat.lt_of_succ_lt h))

/-- The point before an odd point. -/
abbrev prev (t : Fin cfg0.N) : Fin cfg0.N := ⟨t.val - 1, Nat.lt_of_le_of_lt (Nat.sub_le _ _) t.isLt⟩

/-- The scratch holding the running loss is the ordered sum. -/
theorem loss_eq (c : Dev nD) : ∀ (n : ℕ) (h : n < cfg0.N), (outsAt0 m c n h).2.2.2.1 = lossChain m c n h
  | 0, h => by
    rw [outsAt0_A m c ⟨0, h⟩ rfl rfl (by show ¬0 % 2 = 1; decide) (by show ¬0 % 2 = 1; decide) (by show ¬0 % 32 = 31; decide)]
    dsimp only
    rw [(kind_A ..).1]
    rfl
  | n + 1, h => by
    have hN : n + 1 < 32 := lt_of_lt_of_eq h (show cfg0.N = 32 from N_0)
    have ih := loss_eq c n (Nat.lt_of_succ_lt h)
    have h0 : ¬ (⟨n + 1, h⟩ : Fin cfg0.N).val % 32 = 0 := by dsimp only; omega
    show _ = k0_pay1 _ (lossChain m c n _)
    rw [← ih]
    by_cases h1 : (n + 1) % 2 = 0
    · have h2 : ¬ (⟨n + 1, h⟩ : Fin cfg0.N).val % 2 = 1 := by dsimp only; omega
      have h4 : ¬ (⟨n + 1, h⟩ : Fin cfg0.N).val % 32 = 31 := by dsimp only; omega
      rw [outsAt0_C m c ⟨n + 1, h⟩ h0 h1 h2 h2 h4]
      dsimp only
      rw [(kind_C ..).1]
      rfl
    · have h2 : (⟨n + 1, h⟩ : Fin cfg0.N).val % 2 = 1 := by dsimp only; omega
      by_cases h4 : (n + 1) % 32 = 31
      · rw [outsAt0_D m c ⟨n + 1, h⟩ h0 h1 h2 h2 h4]
        dsimp only
        rw [(kind_D ..).1]
        rfl
      · rw [outsAt0_B m c ⟨n + 1, h⟩ h0 h1 h2 h2 h4]
        dsimp only
        rw [(kind_B ..).1]
        rfl

/-- After an even point the two partial products are that point's block alone. -/
theorem partial_even (c : Dev nD) (t : Fin cfg0.N) (ht : t.val % 2 = 0) :
    (outsAt0 m c t.val t.isLt).2.2.2.2.1 = k0_pay2 (k0_pay13 (iblk m c 1 t) (iblk m c 2 t))
    ∧ (outsAt0 m c t.val t.isLt).2.2.2.2.2 = k0_pay3 (k0_pay14 (iblk m c 0 t) (iblk m c 2 t)) := by
  have hN : t.val < 32 := lt_of_lt_of_eq t.isLt (show cfg0.N = 32 from N_0)
  have h2 : ¬ t.val % 2 = 1 := by omega
  have h4 : ¬ t.val % 32 = 31 := by omega
  by_cases h0 : t.val % 32 = 0
  · rw [outsAt0_A m c t h0 ht h2 h2 h4]
    dsimp only
    rw [(kind_A ..).2.1, (kind_A ..).2.2]
    exact ⟨rfl, rfl⟩
  · rw [outsAt0_C m c t h0 ht h2 h2 h4]
    dsimp only
    rw [(kind_C ..).2.1, (kind_C ..).2.2]
    exact ⟨rfl, rfl⟩

/-- The target result block an odd point computes, over its own blocks and those of the point before. -/
abbrev outT (c : Dev nD) (t : Fin cfg0.N) : Vec F S1x32x32x16 .f32 :=
  k0_pay7 (iblk m c 3 t) (k0_pay4 (k0_pay13 (iblk m c 1 t) (iblk m c 2 t))
    (k0_pay2 (k0_pay13 (iblk m c 1 (prev t)) (iblk m c 2 (prev t)))))

/-- The score result block an odd point computes, over its own blocks and those of the point before. -/
abbrev outP (c : Dev nD) (t : Fin cfg0.N) : Vec F S1x32x32x16 .f32 :=
  k0_pay8 (iblk m c 3 t) (k0_pay5 (k0_pay14 (iblk m c 0 t) (iblk m c 2 t))
    (k0_pay3 (k0_pay14 (iblk m c 0 (prev t)) (iblk m c 2 (prev t)))))

/-- At an odd point the two result blocks are `outT` and `outP`. -/
theorem blocks_odd (c : Dev nD) (t : Fin cfg0.N) (ht : t.val % 2 = 1) :
    (outsAt0 m c t.val t.isLt).2.1 = outT m c t ∧ (outsAt0 m c t.val t.isLt).2.2.1 = outP m c t := by
  have hN : t.val < 32 := lt_of_lt_of_eq t.isLt (show cfg0.N = 32 from N_0)
  have h0 : ¬ t.val % 32 = 0 := by omega
  have h1 : ¬ t.val % 2 = 0 := by omega
  obtain ⟨e1, e2⟩ := partial_even m c (prev t) (by show (t.val - 1) % 2 = 0; omega)
  unfold outT outP
  rw [← e1, ← e2]
  by_cases h4 : t.val % 32 = 31
  · rw [outsAt0_D m c t h0 h1 ht ht h4]
    dsimp only
    rw [(kind_D ..).2.2.2.2.1, (kind_D ..).2.2.2.2.2]
    exact ⟨rfl, rfl⟩
  · rw [outsAt0_B m c t h0 h1 ht ht h4]
    dsimp only
    rw [(kind_B ..).2.2.2.1, (kind_B ..).2.2.2.2]
    exact ⟨rfl, rfl⟩

/-- At the last point the loss block is computed from the ordered sum over all points. -/
theorem loss_last (c : Dev nD) (n : ℕ) (h : n + 1 < cfg0.N) (h4 : (n + 1) % 32 = 31) :
    (outsAt0 m c (n + 1) h).1 = k0_pay9 (lossChain m c (n + 1) h) := by
  have e := loss_eq m c n (Nat.lt_of_succ_lt h)
  have h0 : ¬ (⟨n + 1, h⟩ : Fin cfg0.N).val % 32 = 0 := by dsimp only; omega
  have h1 : ¬ (⟨n + 1, h⟩ : Fin cfg0.N).val % 2 = 0 := by dsimp only; omega
  have h2 : (⟨n + 1, h⟩ : Fin cfg0.N).val % 2 = 1 := by dsimp only; omega
  show _ = k0_pay9 (k0_pay1 _ (lossChain m c n _))
  rw [← e, outsAt0_D m c ⟨n + 1, h⟩ h0 h1 h2 h2 h4]
  dsimp only
  rw [(kind_D ..).2.2.2.1]
  rfl

end Cert.KernelIdeal.Fold

end
-- ==== Proof.Inputs.lean ====
/-
  The blocks the kernel's windows read, at an index, over the arguments as launched.

  Grid point t is batch member t / 2 and half t % 2 of the 512 tokens along the contracted axis. The host lines before the
  region only permute axes, so each block element is one element of an argument.
-/
module

public import proofs.«01_k».proof.Proof.Gen.KernelIdeal.Frame
public import Idealize.ShloMosaic.Lib.Pointwise
public import Idealize.ShloMosaic.Lib.StableHlo.ReadAt
public import Idealize.ShloMosaic.Lib.Pipeline.Value

@[expose] public section

set_option maxRecDepth 16384

noncomputable section

open Idealize.ShloMosaic Idealize.ShloMosaic.TcCoe Idealize.SL.Sem

namespace Cert.KernelIdeal.Inputs

open Cert.KernelIdeal Cert.KernelIdeal.Gen

variable {F : FTy → Type} [FloatOps F]
variable (m : (ℓ : Loc nD τ sig) → Buf (Elt F) ℓ)

theorem lt_32 (t : Fin cfg0.N) : t.val < 32 := lt_of_lt_of_eq t.isLt (show cfg0.N = 32 from N_0)

/-- The batch member of a grid point. -/
def mem (t : Fin cfg0.N) : Fin 16 := ⟨t.val / 2, by have := lt_32 t; omega⟩

/-- Row s of a grid point's half, as one of the 512 tokens. -/
def tok (t : Fin cfg0.N) (s : Fin 256) : Fin 512 := ⟨t.val % 2 * 256 + s.val, by have := s.isLt; omega⟩

/-- The host's permuted first argument, at an index. -/
theorem V_v0 (c : Dev nD) (b : Fin 16) (s : Fin 512) (r : Fin 16) (l : Fin 512) :
    (V m c main_v0 : FVec F S16x512x16x512 .f32) (ix4 b s r l)
      = (m ((c : Thread nD τ).loc main_arg0) : FVec F S16x512x512x16 .f32) (ix4 b s l r) := by
  unfold V V0
  after_reads_at

/-- The host's permuted second argument, at an index. -/
theorem V_v1 (c : Dev nD) (b : Fin 16) (s : Fin 512) (r : Fin 16) (l : Fin 512) :
    (V m c main_v1 : FVec F S16x512x16x512 .f32) (ix4 b s r l)
      = (m ((c : Thread nD τ).loc main_arg1) : FVec F S16x512x512x16 .f32) (ix4 b s l r) := by
  unfold V V0
  after_reads_at

/-- The host's permuted weights, at an index. -/
theorem V_v2 (c : Dev nD) (b : Fin 16) (s : Fin 512) (i : Fin 32) :
    (V m c main_v2 : FVec F S16x512x32 .f32) (ix3 b s i)
      = (m ((c : Thread nD τ).loc main_arg3) : FVec F S16x32x512 .f32) (ix3 b i s) := by
  unfold V V0
  after_reads_at

/-- Where window 0 stands at a point. -/
theorem at0 (t : Fin cfg0.N) : win0_0.index t 0 = t.val / 2 ∧ win0_0.index t 1 = t.val % 2 ∧ win0_0.index t 2 = 0
    ∧ win0_0.index t 3 = 0 :=
  (by decide +kernel : ∀ t : Fin grid0.N, win0_0.index t 0 = t.val / 2 ∧ win0_0.index t 1 = t.val % 2
    ∧ win0_0.index t 2 = 0 ∧ win0_0.index t 3 = 0) t
/-- Where window 1 stands at a point. -/
theorem at1 (t : Fin cfg0.N) : win0_1.index t 0 = t.val / 2 ∧ win0_1.index t 1 = t.val % 2 ∧ win0_1.index t 2 = 0
    ∧ win0_1.index t 3 = 0 :=
  (by decide +kernel : ∀ t : Fin grid0.N, win0_1.index t 0 = t.val / 2 ∧ win0_1.index t 1 = t.val % 2
    ∧ win0_1.index t 2 = 0 ∧ win0_1.index t 3 = 0) t
/-- Where window 2 stands at a point. -/
theorem at2 (t : Fin cfg0.N) : win0_2.index t 0 = t.val / 2 ∧ win0_2.index t 1 = t.val % 2 ∧ win0_2.index t 2 = 0 :=
  (by decide +kernel : ∀ t : Fin grid0.N, win0_2.index t 0 = t.val / 2 ∧ win0_2.index t 1 = t.val % 2
    ∧ win0_2.index t 2 = 0) t
/-- Where window 3 stands at a point. -/
theorem at3 (t : Fin cfg0.N) : win0_3.index t 0 = t.val / 2 ∧ win0_3.index t 1 = 0 ∧ win0_3.index t 2 = 0 :=
  (by decide +kernel : ∀ t : Fin grid0.N, win0_3.index t 0 = t.val / 2 ∧ win0_3.index t 1 = 0
    ∧ win0_3.index t 2 = 0) t

/-- Window 0's block: logits of batch member `mem t`, tokens `tok t ·`. -/
theorem iblk0 (c : Dev nD) (t : Fin cfg0.N) (s : Fin 256) (r : Fin 16) (l : Fin 512) :
    (iblk m c 0 t : Vec F S1x256x16x512 .f32) (ix4 0 s r l)
      = (m ((c : Thread nD τ).loc main_arg0) : FVec F S16x512x512x16 .f32) (ix4 (mem t) (tok t s) l r) := by
  rw [← V_v0 m c]
  obtain ⟨e0, e1, e2, e3⟩ := at0 t
  unfold iblk
  rw [View.read_apply]
  show V m c main_v0 _ = V m c main_v0 _
  congr 1
  funext a
  apply Fin.ext
  match a with
  | ⟨0, _⟩ => show win0_0.index t 0 * 1 + 1 * 0 = t.val / 2; omega
  | ⟨1, _⟩ => show win0_0.index t 1 * 256 + 1 * s.val = t.val % 2 * 256 + s.val; rw [e1]; omega
  | ⟨2, _⟩ => show win0_0.index t 2 * 16 + 1 * r.val = r.val; omega
  | ⟨3, _⟩ => show win0_0.index t 3 * 512 + 1 * l.val = l.val; omega

/-- Window 1's block: targets of batch member `mem t`, tokens `tok t ·`. -/
theorem iblk1 (c : Dev nD) (t : Fin cfg0.N) (s : Fin 256) (r : Fin 16) (l : Fin 512) :
    (iblk m c 1 t : Vec F S1x256x16x512 .f32) (ix4 0 s r l)
      = (m ((c : Thread nD τ).loc main_arg1) : FVec F S16x512x512x16 .f32) (ix4 (mem t) (tok t s) l r) := by
  rw [← V_v1 m c]
  obtain ⟨e0, e1, e2, e3⟩ := at1 t
  unfold iblk
  rw [View.read_apply]
  show V m c main_v1 _ = V m c main_v1 _
  congr 1
  funext a
  apply Fin.ext
  match a with
  | ⟨0, _⟩ => show win0_1.index t 0 * 1 + 1 * 0 = t.val / 2; omega
  | ⟨1, _⟩ => show win0_1.index t 1 * 256 + 1 * s.val = t.val % 2 * 256 + s.val; rw [e1]; omega
  | ⟨2, _⟩ => show win0_1.index t 2 * 16 + 1 * r.val = r.val; omega
  | ⟨3, _⟩ => show win0_1.index t 3 * 512 + 1 * l.val = l.val; omega

/-- Window 2's block: weights of batch member `mem t`, tokens `tok t ·`. -/
theorem iblk2 (c : Dev nD) (t : Fin cfg0.N) (s : Fin 256) (i : Fin 32) :
    (iblk m c 2 t : Vec F S1x256x32 .f32) (ix3 0 s i)
      = (m ((c : Thread nD τ).loc main_arg3) : FVec F S16x32x512 .f32) (ix3 (mem t) i (tok t s)) := by
  rw [← V_v2 m c]
  obtain ⟨e0, e1, e2⟩ := at2 t
  unfold iblk
  rw [View.read_apply]
  show V m c main_v2 _ = V m c main_v2 _
  congr 1
  funext a
  apply Fin.ext
  match a with
  | ⟨0, _⟩ => show win0_2.index t 0 * 1 + 1 * 0 = t.val / 2; omega
  | ⟨1, _⟩ => show win0_2.index t 1 * 256 + 1 * s.val = t.val % 2 * 256 + s.val; rw [e1]; omega
  | ⟨2, _⟩ => show win0_2.index t 2 * 32 + 1 * i.val = i.val; omega

/-- Window 3's block: all the weights of batch member `mem t`. -/
theorem iblk3 (c : Dev nD) (t : Fin cfg0.N) (j : Fin 32) (l : Fin 512) :
    (iblk m c 3 t : Vec F S1x32x512 .f32) (ix3 0 j l)
      = (m ((c : Thread nD τ).loc main_arg3) : FVec F S16x32x512 .f32) (ix3 (mem t) j l) := by
  rw [← V_main_arg3 m c]
  obtain ⟨e0, e1, e2⟩ := at3 t
  unfold iblk
  rw [View.read_apply]
  show V m c main_arg3 _ = V m c main_arg3 _
  congr 1
  funext a
  apply Fin.ext
  match a with
  | ⟨0, _⟩ => show win0_3.index t 0 * 1 + 1 * 0 = t.val / 2; omega
  | ⟨1, _⟩ => show win0_3.index t 1 * 32 + 1 * j.val = j.val; omega
  | ⟨2, _⟩ => show win0_3.index t 2 * 512 + 1 * l.val = l.val; omega

end Cert.KernelIdeal.Inputs

end
-- ==== Proof.Scalars.lean ====
/-
  The scalar functions of the problem over the extended reals, and the few facts about sums and constants that carry the
  kernel's value to the reference's.
-/
module

public import Idealize.ShloMosaic.Lib.Pointwise
public import Idealize.ShloMosaic.Lib.IdealHost
public import Idealize.ShloMosaic.Lib.KernelVsHost

@[expose] public section

noncomputable section

open Idealize.ShloMosaic

namespace Cert.Scalars

/-- The cross entropy of a logit against a target, in the stable form both programs compute:
    max(x, 0) - x t + log(1 + exp(-|x|)). -/
def bce (x t : EReal) : EReal := max x 0 - x * t + Ideal.log1p (Ideal.exp (-(max x (-x))))

/-- One where the value is positive, zero elsewhere: the host's conversion of the comparison bit. -/
def ind (x : Ideal .f32) : Ideal .f32 := FloatOps.uitofp .f32 (BitVec.ofBool (decide (0 < x)))

/-- The kernel widens the comparison bit to a word and converts it signed: the same value. -/
theorem sitofp_eq_ind (x : Ideal .f32) :
    (FloatOps.sitofp .f32 (BitVec.setWidth 32 (BitVec.ofBool (decide (0 < x)))) : Ideal .f32) = ind x := by
  unfold ind
  show ((((BitVec.ofBool (decide (0 < x))).setWidth 32).toInt : ℝ) : EReal) = (((BitVec.ofBool (decide (0 < x))).toNat : ℝ) : EReal)
  rw [toInt_setWidth_bit]
  norm_cast

/-- The word 0x3B800000 is 1/256. -/
theorem c256 : Ideal.ofBits .f32 0x3B800000#32 = ((1 / 256 : ℝ) : EReal) := by
  simp [Ideal.ofBits, Ideal.ieee]; rw [← EReal.coe_mul]; norm_num
/-- The word 0x3D800000 is 1/16. -/
theorem c16 : Ideal.ofBits .f32 0x3D800000#32 = ((1 / 16 : ℝ) : EReal) := by
  simp [Ideal.ofBits, Ideal.ieee]; rw [← EReal.coe_mul]; norm_num
/-- The word 0x41800000 is 16. -/
theorem d16 : Ideal.ofBits .f32 0x41800000#32 = ((16 : ℝ) : EReal) := by
  simp [Ideal.ofBits, Ideal.ieee]; rw [← EReal.coe_mul]; norm_num

/-- Scaling by 1/16 and dividing by 16 is scaling by 1/256, at every extended real. -/
theorem scale (s : EReal) : Ideal.div (((1 / 16 : ℝ) : EReal) * s) ((16 : ℝ) : EReal) = s * ((1 / 256 : ℝ) : EReal) := by
  rw [Ideal.div_coe (by norm_num), mul_comm _ s, mul_assoc, ← EReal.coe_mul]
  norm_num

/-- A sum over 32 grid points and 256 rows each is the sum over 16 batch members and 512 tokens. -/
theorem sum_points (f : Fin 16 → Fin 512 → EReal) :
    ∑ k : Fin 32, ∑ s : Fin 256, f ⟨k.val / 2, by have := k.isLt; omega⟩ ⟨k.val % 2 * 256 + s.val, by have := s.isLt; omega⟩
      = ∑ b : Fin 16, ∑ q : Fin 512, f b q := by
  rw [Fin.sum_univ_tiles 16 2 rfl]
  refine Finset.sum_congr rfl fun b _ => ?_
  rw [Fin.sum_univ_tiles 2 256 rfl]
  refine Finset.sum_congr rfl fun h _ => Finset.sum_congr rfl fun s _ => ?_
  have hh := h.isLt
  congr 1
  · apply Fin.ext; show (b.val * 2 + h.val) / 2 = b.val; omega
  · apply Fin.ext; show (b.val * 2 + h.val) % 2 * 256 + s.val = h.val * 256 + s.val; omega

/-- Summed over ranks and positions outside, or over batch members and tokens outside: the same total. -/
theorem sum_swap (f : Fin 16 → Fin 512 → Fin 512 → Fin 16 → EReal) :
    ∑ r : Fin 16, ∑ l : Fin 512, ∑ b : Fin 16, ∑ q : Fin 512, f b q l r
      = ∑ b : Fin 16, ∑ q : Fin 512, ∑ l : Fin 512, ∑ r : Fin 16, f b q l r := by
  simp only [← Fintype.sum_prod_type']
  let e : Fin 16 × Fin 512 × Fin 16 × Fin 512 ≃ Fin 16 × Fin 512 × Fin 512 × Fin 16 :=
    ⟨fun p => (p.2.2.1, p.2.2.2, p.2.1, p.1), fun p => (p.2.2.2, p.2.2.1, p.1, p.2.1), fun _ => rfl, fun _ => rfl⟩
  exact Fintype.sum_equiv e _ _ fun _ => rfl

end Cert.Scalars

end
-- ==== Proof.KernelValue.lean ====
/-
  What the kernel's points compute, at an index, over the extended reals and over the arguments as launched.
-/
module

public import proofs.«01_k».proof.Proof.Fold
public import proofs.«01_k».proof.Proof.Inputs
public import proofs.«01_k».proof.Proof.Scalars

@[expose] public section

set_option maxRecDepth 16384

noncomputable section

open Idealize.ShloMosaic Idealize.ShloMosaic.TcCoe Idealize.SL.Sem

namespace Cert.KernelIdeal.KernelValue

open Cert.KernelIdeal Cert.KernelIdeal.Gen Cert.KernelIdeal.Fold Cert.KernelIdeal.Inputs Cert.Scalars

/-! ## The payloads at an index -/

/-- One block's loss at rank r, position l: the cross entropies of its 256 rows, summed. -/
theorem lossBlock (x0 x1 : Vec Ideal S1x256x16x512 .f32) (r : Fin 16) (l : Fin 512) :
    k0_pay15 x0 x1 (ix3 0 r l) = ∑ s : Fin 256, bce (x0 (ix4 0 s r l)) (x1 (ix4 0 s r l)) := by
  pointwise [k0_pay15, k0_pay10, k0_pay11]
  refine Finset.sum_congr rfl fun s _ => ?_
  rw [zero_sub]
  rfl

/-- The loss vector's update adds the block's loss. -/
theorem lossAdd (v : FVec Ideal S1x16x512 .f32) (a : Vec Ideal S16x512 .f32) (r : Fin 16) (l : Fin 512) :
    k0_pay1 v a (ix2 r l) = a (ix2 r l) + v (ix3 0 r l) := by
  pointwise [k0_pay1]

/-- The loss vector starts at zero. -/
theorem lossZero (r : Fin 16) (l : Fin 512) : k0_pay16 (F := Ideal) (ix2 r l) = 0 := by
  pointwise [k0_pay16]

/-- The loss is the loss vector's sum over 256. -/
theorem lossOut (a : Vec Ideal S16x512 .f32) :
    k0_pay9 a (ix2 0 0) = (∑ r : Fin 16, ∑ l : Fin 512, a (ix2 r l)) * ((1 / 256 : ℝ) : EReal) := by
  rw [← c256]
  pointwise [k0_pay9]

/-- One block's contribution to the target partial product. -/
theorem partT (x1 : Vec Ideal S1x256x16x512 .f32) (x2 : Vec Ideal S1x256x32 .f32) (i : Fin 32) (r : Fin 16) (l : Fin 512) :
    k0_pay13 x1 x2 (ix3 i r l) = ∑ s : Fin 256, x2 (ix3 0 s i) * x1 (ix4 0 s r l) := by
  pointwise [k0_pay13, k0_pay12, k0_pay11]

/-- One block's contribution to the positive-score partial product. -/
theorem partP (x0 : Vec Ideal S1x256x16x512 .f32) (x2 : Vec Ideal S1x256x32 .f32) (i : Fin 32) (r : Fin 16) (l : Fin 512) :
    k0_pay14 x0 x2 (ix3 i r l) = ∑ s : Fin 256, x2 (ix3 0 s i) * ind (x0 (ix4 0 s r l)) := by
  pointwise [k0_pay14, k0_pay12, k0_pay10]
  exact Finset.sum_congr rfl fun s _ => congrArg _ (sitofp_eq_ind _)

/-- The target partial product of the two halves. -/
theorem addT (a b : FVec Ideal S32x16x512 .f32) (i : Fin 32) (r : Fin 16) (l : Fin 512) :
    k0_pay4 a (k0_pay2 b) (ix3 i r l) = b (ix3 i r l) + a (ix3 i r l) := by
  pointwise [k0_pay4, k0_pay2]

/-- The positive-score partial product of the two halves. -/
theorem addP (a b : FVec Ideal S32x16x512 .f32) (i : Fin 32) (r : Fin 16) (l : Fin 512) :
    k0_pay5 a (k0_pay3 b) (ix3 i r l) = b (ix3 i r l) + a (ix3 i r l) := by
  pointwise [k0_pay5, k0_pay3]

/-- The target result block: the indicator of the second contraction. -/
theorem outBlockT (w : Vec Ideal S1x32x512 .f32) (p : Vec Ideal S32x16x512 .f32) (i j : Fin 32) (r : Fin 16) :
    k0_pay7 w p (ix4 0 j i r) = ind (∑ l : Fin 512, w (ix3 0 j l) * p (ix3 i r l)) := by
  pointwise [k0_pay7, k0_pay6]
  exact sitofp_eq_ind _

/-- The score result block: the indicator of the second contraction. -/
theorem outBlockP (w : Vec Ideal S1x32x512 .f32) (p : Vec Ideal S32x16x512 .f32) (i j : Fin 32) (r : Fin 16) :
    k0_pay8 w p (ix4 0 j i r) = ind (∑ l : Fin 512, w (ix3 0 j l) * p (ix3 i r l)) := by
  pointwise [k0_pay8, k0_pay6]
  exact sitofp_eq_ind _

/-! ## Over the arguments -/

variable (m : (ℓ : Loc nD τ sig) → Buf (Elt Ideal) ℓ)

/-- The logits as launched. -/
abbrev X (c : Dev nD) : FVec Ideal S16x512x512x16 .f32 := m ((c : Thread nD τ).loc main_arg0)
/-- The targets as launched. -/
abbrev T (c : Dev nD) : FVec Ideal S16x512x512x16 .f32 := m ((c : Thread nD τ).loc main_arg1)
/-- The weights as launched. -/
abbrev U (c : Dev nD) : FVec Ideal S16x32x512 .f32 := m ((c : Thread nD τ).loc main_arg3)

/-- A score array contracted with the weights on both sides, thresholded: what both programs compute of targets and scores. -/
def score (u : FVec Ideal S16x32x512 .f32) (sc : Fin 16 → Fin 512 → Fin 512 → Fin 16 → Ideal .f32) (b : Fin 16) (i j : Fin 32)
    (r : Fin 16) : Ideal .f32 :=
  ind (∑ l : Fin 512, (∑ q : Fin 512, u (ix3 b i q) * sc b q l r) * u (ix3 b j l))

/-- The loss of grid point n at rank r, position l. -/
def pointLoss (c : Dev nD) (r : Fin 16) (l : Fin 512) (t : Fin cfg0.N) : EReal :=
  ∑ s : Fin 256, bce (X m c (ix4 (mem t) (tok t s) l r)) (T m c (ix4 (mem t) (tok t s) l r))

/-- A point's block loss over the arguments. -/
theorem lossBlock_eq (c : Dev nD) (t : Fin cfg0.N) (r : Fin 16) (l : Fin 512) :
    k0_pay15 (iblk m c 0 t) (iblk m c 1 t) (ix3 0 r l) = pointLoss m c r l t := by
  rw [lossBlock]
  refine Finset.sum_congr rfl fun s _ => ?_
  rw [iblk0, iblk1]

/-- The ordered sum after point n is the sum of the point losses up to n. -/
theorem lossChain_apply (c : Dev nD) (r : Fin 16) (l : Fin 512) : ∀ (n : ℕ) (h : n < cfg0.N),
    lossChain m c n h (ix2 r l) = ∑ k : Fin (n + 1), pointLoss m c r l ⟨k.val, Nat.lt_of_lt_of_le k.isLt h⟩
  | 0, h => by
    show k0_pay1 _ _ (ix2 r l) = _
    rw [lossAdd, lossZero, lossBlock_eq, zero_add, Fin.sum_univ_one]
    rfl
  | n + 1, h => by
    show k0_pay1 _ (lossChain m c n _) (ix2 r l) = _
    rw [lossAdd, lossBlock_eq, lossChain_apply c r l n]
    exact (Fin.sum_univ_castSucc fun k : Fin (n + 1 + 1) =>
      pointLoss m c r l ⟨k.val, Nat.lt_of_lt_of_le k.isLt h⟩).symm

/-- The finished loss vector, summed: every cross entropy once. -/
theorem lossTotal (c : Dev nD) (h : 30 + 1 < cfg0.N) :
    ∑ r : Fin 16, ∑ l : Fin 512, lossChain m c (30 + 1) h (ix2 r l)
      = ∑ b : Fin 16, ∑ q : Fin 512, ∑ l : Fin 512, ∑ r : Fin 16, bce (X m c (ix4 b q l r)) (T m c (ix4 b q l r)) := by
  rw [← sum_swap fun b q l r => bce (X m c (ix4 b q l r)) (T m c (ix4 b q l r))]
  refine Finset.sum_congr rfl fun r _ => Finset.sum_congr rfl fun l _ => ?_
  rw [lossChain_apply, ← sum_points fun b q => bce (X m c (ix4 b q l r)) (T m c (ix4 b q l r))]
  rfl

/-- The finished partial product of one odd point and the even point before it, over any block function that reads an
    array's rows: the sum over all 512 tokens. -/
theorem halves (c : Dev nD) (t : Fin cfg0.N) (ht : t.val % 2 = 1) (f : Fin 16 → Fin 512 → EReal) :
    ∑ s : Fin 256, f (mem (prev t)) (tok (prev t) s) + ∑ s : Fin 256, f (mem t) (tok t s) = ∑ q : Fin 512, f (mem t) q := by
  rw [Fin.sum_univ_two_halves 256 256 rfl]
  congr 1
  · refine Finset.sum_congr rfl fun s _ => ?_
    congr 1
    · apply Fin.ext; show (t.val - 1) / 2 = t.val / 2; omega
    · apply Fin.ext; show (t.val - 1) % 2 * 256 + s.val = s.val; omega
  · refine Finset.sum_congr rfl fun s _ => ?_
    congr 1
    apply Fin.ext; show t.val % 2 * 256 + s.val = 256 + s.val; omega

/-- An odd point's target block, at (j, i, r): the batch member's thresholded score of the targets. -/
theorem outT_apply (c : Dev nD) (t : Fin cfg0.N) (ht : t.val % 2 = 1) (i j : Fin 32) (r : Fin 16) :
    outT m c t (ix4 0 j i r) = score (U m c) (fun b q l r => T m c (ix4 b q l r)) (mem t) i j r := by
  unfold outT score
  rw [outBlockT]
  congr 1
  refine Finset.sum_congr rfl fun l _ => ?_
  rw [iblk3, addT, partT, partT, mul_comm]
  congr 1
  rw [← halves c t ht fun b q => U m c (ix3 b i q) * T m c (ix4 b q l r)]
  congr 1 <;> exact Finset.sum_congr rfl fun s _ => by rw [iblk1, iblk2]

/-- An odd point's score block, at (j, i, r): the batch member's thresholded score of the positive logits. -/
theorem outP_apply (c : Dev nD) (t : Fin cfg0.N) (ht : t.val % 2 = 1) (i j : Fin 32) (r : Fin 16) :
    outP m c t (ix4 0 j i r) = score (U m c) (fun b q l r => ind (X m c (ix4 b q l r))) (mem t) i j r := by
  unfold outP score
  rw [outBlockP]
  congr 1
  refine Finset.sum_congr rfl fun l _ => ?_
  rw [iblk3, addP, partP, partP, mul_comm]
  congr 1
  rw [← halves c t ht fun b q => U m c (ix3 b i q) * ind (X m c (ix4 b q l r))]
  congr 1 <;> exact Finset.sum_congr rfl fun s _ => by rw [iblk0, iblk2]

end Cert.KernelIdeal.KernelValue

end
-- ==== Proof.Arrays.lean ====
/-
  The kernel's three result arrays after the last grid point, over the extended reals: the loss and the two score arrays.
-/
module

public import proofs.«01_k».proof.Proof.KernelValue
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Fold Cert.KernelIdeal.Inputs Cert.KernelIdeal.KernelValue
  Cert.Scalars

variable (m : (ℓ : Loc nD τ sig) → Buf (Elt Ideal) ℓ)

/-- The loss: every cross entropy once, over 256. -/
def loss (c : Dev nD) : EReal :=
  (∑ b : Fin 16, ∑ q : Fin 512, ∑ l : Fin 512, ∑ r : Fin 16, bce (X m c (ix4 b q l r)) (T m c (ix4 b q l r)))
    * ((1 / 256 : ℝ) : EReal)

/-- The loss array. -/
abbrev lossArr (c : Dev nD) : Vec Ideal S1x1 .f32 := fun _ => loss m c
/-- The target score array, second weight index first. -/
abbrev tgtArr (c : Dev nD) : Vec Ideal S16x32x32x16 .f32 := fun i =>
  score (U m c) (fun b q l r => T m c (ix4 b q l r)) (i 0) (i 2) (i 1) (i 3)
/-- The positive score array, second weight index first. -/
abbrev posArr (c : Dev nD) : Vec Ideal S16x32x32x16 .f32 := fun i =>
  score (U m c) (fun b q l r => ind (X m c (ix4 b q l r))) (i 0) (i 2) (i 1) (i 3)

/-- The odd point of a batch member. -/
def pt (b : Fin 16) : Fin cfg0.N := ⟨2 * b.val + 1, by rw [show cfg0.N = 32 from N_0]; have := b.isLt; omega⟩

/-- Where windows 5 and 6 stand at a point. -/
theorem at5 (t : Fin cfg0.N) : win0_5.index t 0 = t.val / 2 ∧ win0_5.index t 1 = 0 ∧ win0_5.index t 2 = 0
    ∧ win0_5.index t 3 = 0 :=
  (by decide +kernel : ∀ t : Fin grid0.N, win0_5.index t 0 = t.val / 2 ∧ win0_5.index t 1 = 0 ∧ win0_5.index t 2 = 0
    ∧ win0_5.index t 3 = 0) t
/-- Where window 6 stands at a point. -/
theorem at6 (t : Fin cfg0.N) : win0_6.index t 0 = t.val / 2 ∧ win0_6.index t 1 = 0 ∧ win0_6.index t 2 = 0
    ∧ win0_6.index t 3 = 0 :=
  (by decide +kernel : ∀ t : Fin grid0.N, win0_6.index t 0 = t.val / 2 ∧ win0_6.index t 1 = 0 ∧ win0_6.index t 2 = 0
    ∧ win0_6.index t 3 = 0) t

/-- A 4-index of a one-member block is `ix4` of its last three coordinates. -/
theorem split4 (j : S1x32x32x16.Idx) : j = ix4 0 (j 1) (j 2) (j 3) := by
  funext a
  match a with
  | ⟨0, _⟩ => exact Fin.ext (by have : (j 0 : Nat) < 1 := (j 0).isLt; show (j 0 : Nat) = 0; omega)
  | ⟨1, _⟩ => rfl
  | ⟨2, _⟩ => rfl
  | ⟨3, _⟩ => rfl

/-- What window 5 writes back is its block of the target array. -/
theorem flushed5 (c : Dev nD) (t : Fin cfg0.N) (hf : (cfg0.win 5).flush t = true) :
    (dats m 0 c).flushed 5 t = ((cfg0.win 5).blk t).view.read (Elt Ideal) (tgtArr m c) := by
  have ht := (flush0_5 t).mp hf
  show (cfg0.win 5).cut (grid0.coords t) ((dats m 0 c).after 5 t) = _
  rw [after0_5, (blocks_odd m c t ht).1]
  obtain ⟨e0, e1, e2, e3⟩ := at5 t
  funext j
  rw [View.read_apply]
  show outT m c t j = tgtArr m c _
  refine ((congrArg (outT m c t) (split4 j)).trans (outT_apply m c t ht (j 2) (j 1) (j 3))).trans ?_
  show score _ _ _ _ _ _ = score _ _ _ _ _ _
  congr 1 <;> apply Fin.ext
  · have h0 : (j 0 : Nat) < 1 := (j 0).isLt
    show t.val / 2 = win0_5.index t 0 * 1 + 1 * (j 0 : Nat); omega
  · show (j 2 : Nat) = win0_5.index t 2 * 32 + 1 * (j 2 : Nat); omega
  · show (j 1 : Nat) = win0_5.index t 1 * 32 + 1 * (j 1 : Nat); omega
  · show (j 3 : Nat) = win0_5.index t 3 * 16 + 1 * (j 3 : Nat); omega

/-- What window 6 writes back is its block of the positive score array. -/
theorem flushed6 (c : Dev nD) (t : Fin cfg0.N) (hf : (cfg0.win 6).flush t = true) :
    (dats m 0 c).flushed 6 t = ((cfg0.win 6).blk t).view.read (Elt Ideal) (posArr m c) := by
  have ht := (flush0_6 t).mp hf
  show (cfg0.win 6).cut (grid0.coords t) ((dats m 0 c).after 6 t) = _
  rw [after0_6, (blocks_odd m c t ht).2]
  obtain ⟨e0, e1, e2, e3⟩ := at6 t
  funext j
  rw [View.read_apply]
  show outP m c t j = posArr m c _
  refine ((congrArg (outP m c t) (split4 j)).trans (outP_apply m c t ht (j 2) (j 1) (j 3))).trans ?_
  show score _ _ _ _ _ _ = score _ _ _ _ _ _
  congr 1 <;> apply Fin.ext
  · have h0 : (j 0 : Nat) < 1 := (j 0).isLt
    show t.val / 2 = win0_6.index t 0 * 1 + 1 * (j 0 : Nat); omega
  · show (j 2 : Nat) = win0_6.index t 2 * 32 + 1 * (j 2 : Nat); omega
  · show (j 1 : Nat) = win0_6.index t 1 * 32 + 1 * (j 1 : Nat); omega
  · show (j 3 : Nat) = win0_6.index t 3 * 16 + 1 * (j 3 : Nat); omega

/-- Window 5's array after the last point. -/
theorem final5 (c : Dev nD) : (dats m 0 c).arrAt 5 cfg0.N = tgtArr m c :=
  (dats m 0 c).arrAt_eq_of_cover 5 (tgtArr m c) (flushed5 m c) fun i =>
    ⟨pt (i 0), (flush0_5 _).mpr (by show (2 * (i 0 : Nat) + 1) % 2 = 1; omega), by
      obtain ⟨e0, e1, e2, e3⟩ := at5 (pt (i 0))
      have e0' : win0_5.index (pt (i 0)) 0 = (i 0 : Nat) := e0.trans (by show (2 * (i 0 : Nat) + 1) / 2 = _; omega)
      show i ∈ ((View.whole main_v3_1).slice (win0_5.rect (pt (i 0)))).set
      rw [View.set_slice_whole, Rect.mem_set_unit]
      have h1 : (i 1 : Nat) < 32 := (i 1).isLt
      have h2 : (i 2 : Nat) < 32 := (i 2).isLt
      have h3 : (i 3 : Nat) < 16 := (i 3).isLt
      intro a
      match a with
      | ⟨0, _⟩ => show win0_5.index (pt (i 0)) 0 * 1 ≤ (i 0 : Nat) ∧ (i 0 : Nat) < win0_5.index (pt (i 0)) 0 * 1 + 1; omega
      | ⟨1, _⟩ => show win0_5.index (pt (i 0)) 1 * 32 ≤ (i 1 : Nat) ∧ (i 1 : Nat) < win0_5.index (pt (i 0)) 1 * 32 + 32; omega
      | ⟨2, _⟩ => show win0_5.index (pt (i 0)) 2 * 32 ≤ (i 2 : Nat) ∧ (i 2 : Nat) < win0_5.index (pt (i 0)) 2 * 32 + 32; omega
      | ⟨3, _⟩ => show win0_5.index (pt (i 0)) 3 * 16 ≤ (i 3 : Nat) ∧ (i 3 : Nat) < win0_5.index (pt (i 0)) 3 * 16 + 16; omega⟩

/-- Window 6's array after the last point. -/
theorem final6 (c : Dev nD) : (dats m 0 c).arrAt 6 cfg0.N = posArr m c :=
  (dats m 0 c).arrAt_eq_of_cover 6 (posArr m c) (flushed6 m c) fun i =>
    ⟨pt (i 0), (flush0_6 _).mpr (by show (2 * (i 0 : Nat) + 1) % 2 = 1; omega), by
      obtain ⟨e0, e1, e2, e3⟩ := at6 (pt (i 0))
      have e0' : win0_6.index (pt (i 0)) 0 = (i 0 : Nat) := e0.trans (by show (2 * (i 0 : Nat) + 1) / 2 = _; omega)
      show i ∈ ((View.whole main_v3_2).slice (win0_6.rect (pt (i 0)))).set
      rw [View.set_slice_whole, Rect.mem_set_unit]
      have h1 : (i 1 : Nat) < 32 := (i 1).isLt
      have h2 : (i 2 : Nat) < 32 := (i 2).isLt
      have h3 : (i 3 : Nat) < 16 := (i 3).isLt
      intro a
      match a with
      | ⟨0, _⟩ => show win0_6.index (pt (i 0)) 0 * 1 ≤ (i 0 : Nat) ∧ (i 0 : Nat) < win0_6.index (pt (i 0)) 0 * 1 + 1; omega
      | ⟨1, _⟩ => show win0_6.index (pt (i 0)) 1 * 32 ≤ (i 1 : Nat) ∧ (i 1 : Nat) < win0_6.index (pt (i 0)) 1 * 32 + 32; omega
      | ⟨2, _⟩ => show win0_6.index (pt (i 0)) 2 * 32 ≤ (i 2 : Nat) ∧ (i 2 : Nat) < win0_6.index (pt (i 0)) 2 * 32 + 32; omega
      | ⟨3, _⟩ => show win0_6.index (pt (i 0)) 3 * 16 ≤ (i 3 : Nat) ∧ (i 3 : Nat) < win0_6.index (pt (i 0)) 3 * 16 + 16; omega⟩

/-- The only index of a one-by-one array. -/
theorem only (j : S1x1.Idx) : j = ix2 0 0 := by
  funext a
  match a with
  | ⟨0, _⟩ => exact Fin.ext (by have : (j 0 : Nat) < 1 := (j 0).isLt; show (j 0 : Nat) = 0; omega)
  | ⟨1, _⟩ => exact Fin.ext (by have : (j 1 : Nat) < 1 := (j 1).isLt; show (j 1 : Nat) = 0; omega)

/-- After the last point the loss buffer holds the loss. -/
theorem loss_out (c : Dev nD) (n : ℕ) (h : n + 1 < cfg0.N) (hn : n = 30) (j : S1x1.Idx) :
    (outsAt0 m c (n + 1) h).1 j = loss m c := by
  rw [loss_last m c n h (by omega), only j, lossOut]
  subst hn
  rw [lossTotal]
  rfl

/-- What window 4 writes back, once, is the loss. -/
theorem flushed4 (c : Dev nD) (t : Fin cfg0.N) (hf : (cfg0.win 4).flush t = true) :
    (dats m 0 c).flushed 4 t = ((cfg0.win 4).blk t).view.read (Elt Ideal) (lossArr m c) := by
  have ht := (flush0_4 t).mp hf
  obtain ⟨t, h⟩ := t
  have hN : t < 32 := lt_of_lt_of_eq h (show cfg0.N = 32 from N_0)
  obtain ⟨n, rfl⟩ : ∃ n, t = n + 1 := ⟨t - 1, by dsimp only at ht; omega⟩
  show (cfg0.win 4).cut (grid0.coords ⟨n + 1, h⟩) ((dats m 0 c).after 4 ⟨n + 1, h⟩) = _
  rw [after0_4]
  funext j
  show (outsAt0 m c (n + 1) h).1 j = _
  rw [View.read_apply]
  exact loss_out m c n h (by dsimp only at ht; omega) j

/-- Window 4's array after the last point. -/
theorem final4 (c : Dev nD) : (dats m 0 c).arrAt 4 cfg0.N = lossArr m c :=
  (dats m 0 c).arrAt_eq_of_cover 4 (lossArr m c) (flushed4 m c) fun i =>
    ⟨pt 15, (flush0_4 _).mpr (by show (2 * 15 + 1) % 32 = 31; decide), by
      show i ∈ ((View.whole main_v3_0).slice (win0_4.rect (pt 15))).set
      rw [View.set_slice_whole, Rect.mem_set_unit]
      have e : win0_4.index (pt 15) 0 = 0 ∧ win0_4.index (pt 15) 1 = 0 := by decide +kernel
      have h0 : (i 0 : Nat) < 1 := (i 0).isLt
      have h1 : (i 1 : Nat) < 1 := (i 1).isLt
      intro a
      match a with
      | ⟨0, _⟩ => show win0_4.index (pt 15) 0 * 1 ≤ (i 0 : Nat) ∧ (i 0 : Nat) < win0_4.index (pt 15) 0 * 1 + 1; omega
      | ⟨1, _⟩ => show win0_4.index (pt 15) 1 * 1 ≤ (i 1 : Nat) ∧ (i 1 : Nat) < win0_4.index (pt 15) 1 * 1 + 1; omega⟩

end Cert.KernelIdeal.Arrays

end
-- ==== Proof.Tail.lean ====
/-
  The kernel's run read at its results: the host operations after the grid reshape the loss and swap the score arrays' two
  weight indices.
-/
module

public import proofs.«01_k».proof.Proof.Arrays
public import proofs.«01_k».proof.Proof.Gen.KernelIdeal.Frame

@[expose] public section

set_option maxRecDepth 16384

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.KernelIdeal.KernelValue Cert.KernelIdeal.Arrays Cert.Scalars
  Idealize.ShloMosaic.StableHlo

variable (m : (ℓ : Loc nD τ sig) → Buf (Elt Ideal) ℓ) (ρ : Dev nD → PrngReg)

/-- The kernel's score result: first weight index first. -/
abbrev tgtOut (c : Dev nD) : Vec Ideal S16x32x32x16 .f32 := fun i =>
  score (U m c) (fun b q l r => T m c (ix4 b q l r)) (i 0) (i 1) (i 2) (i 3)
/-- The kernel's positive score result: first weight index first. -/
abbrev posOut (c : Dev nD) : Vec Ideal S16x32x32x16 .f32 := fun i =>
  score (U m c) (fun b q l r => ind (X m c (ix4 b q l r))) (i 0) (i 1) (i 2) (i 3)
/-- The kernel's loss result. -/
abbrev lossOutV (c : Dev nD) : Vec Ideal S_ .f32 := fun _ => loss m c

/-- The windows' arrays are distinct. -/
theorem arrs_inj : Function.Injective (Pipeline.arrRef spec0) := by decide

/-- What the loss result holds after the last host operation. -/
theorem tail4 (c : Dev nD) : Pipeline.afterTail₀ cfgs (dats m) 0 (V0 m) [hostOps1] c main_v4 = lossOutV m c := by
  unfold Pipeline.afterTail₀
  have e := Pipeline.withArrays_arr (cfgs 0).spec arrs_inj c (V0 m c) (fun w => (dats m 0 c).arrAt w (cfgs 0).N) 4
  rw [final4 m c] at e
  generalize Pipeline.withArrays (cfgs 0).spec c (V0 m c) (fun w => (dats m 0 c).arrAt w (cfgs 0).N) = W at e ⊢
  have h : StableHlo.after (List.flatten [hostOps1]) W (Proc.devRef .tc main_v4)
      = (shapeCast S_ (W (Proc.devRef .tc main_v3_0) : Vec Ideal S1x1 .f32) shapeCasts_S1x1_S_ : Vec Ideal S_ .f32) := by
    simp only [hostOps1, List.flatten_cons, List.flatten_nil, List.append_nil]
    after_results_simp
    rfl
  refine h.trans ?_
  rw [show (W (Proc.devRef .tc main_v3_0) : Vec Ideal S1x1 .f32) = lossArr m c from e]
  rfl

/-- What the target score result holds after the last host operation. -/
theorem tail5 (c : Dev nD) : Pipeline.afterTail₀ cfgs (dats m) 0 (V0 m) [hostOps1] c main_v5 = tgtOut m c := by
  unfold Pipeline.afterTail₀
  have e := Pipeline.withArrays_arr (cfgs 0).spec arrs_inj c (V0 m c) (fun w => (dats m 0 c).arrAt w (cfgs 0).N) 5
  rw [final5 m c] at e
  generalize Pipeline.withArrays (cfgs 0).spec c (V0 m c) (fun w => (dats m 0 c).arrAt w (cfgs 0).N) = W at e ⊢
  have h : StableHlo.after (List.flatten [hostOps1]) W (Proc.devRef .tc main_v5)
      = (transpose S16x32x32x16 [0, 2, 1, 3] (W (Proc.devRef .tc main_v3_1) : Vec Ideal S16x32x32x16 .f32)
          transposes_S16x32x32x16_S16x32x32x16_0_2_1_3 : Vec Ideal S16x32x32x16 .f32) := by
    simp only [hostOps1, List.flatten_cons, List.flatten_nil, List.append_nil]
    after_results_simp
  refine h.trans ?_
  rw [show (W (Proc.devRef .tc main_v3_1) : Vec Ideal S16x32x32x16 .f32) = tgtArr m c from e]
  funext i
  rfl

/-- What the positive score result holds after the last host operation. -/
theorem tail6 (c : Dev nD) : Pipeline.afterTail₀ cfgs (dats m) 0 (V0 m) [hostOps1] c main_v6 = posOut m c := by
  unfold Pipeline.afterTail₀
  have e := Pipeline.withArrays_arr (cfgs 0).spec arrs_inj c (V0 m c) (fun w => (dats m 0 c).arrAt w (cfgs 0).N) 6
  rw [final6 m c] at e
  generalize Pipeline.withArrays (cfgs 0).spec c (V0 m c) (fun w => (dats m 0 c).arrAt w (cfgs 0).N) = W at e ⊢
  have h : StableHlo.after (List.flatten [hostOps1]) W (Proc.devRef .tc main_v6)
      = (transpose S16x32x32x16 [0, 2, 1, 3] (W (Proc.devRef .tc main_v3_2) : Vec Ideal S16x32x32x16 .f32)
          transposes_S16x32x32x16_S16x32x32x16_0_2_1_3 : Vec Ideal S16x32x32x16 .f32) := by
    simp only [hostOps1, List.flatten_cons, List.flatten_nil, List.append_nil]
    after_results_simp
  refine h.trans ?_
  rw [show (W (Proc.devRef .tc main_v3_2) : Vec Ideal S16x32x32x16 .f32) = posArr m c from e]
  funext i
  rfl

/-- The kernel's run: the three results at the loss and the two thresholded scores of the arguments as launched, the
    arguments unchanged. -/
theorem run : θ_run defs (onTc (τ := τ) (main (F := Ideal))) ⟨m, fun _ => 0, ρ⟩ fun r => ∀ c : Dev nD,
      r.2.mem ((c.tc : Thread nD τ).loc main_v4) = lossOutV m c
      ∧ r.2.mem ((c.tc : Thread nD τ).loc main_v5) = tgtOut m c
      ∧ r.2.mem ((c.tc : Thread nD τ).loc main_v6) = posOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h.1 c).2 main_v4 (Pipeline.mem_restRefs_of main_v4 (by decide) (by decide))).trans (tail4 m c),
      ((h.1 c).2 main_v5 (Pipeline.mem_restRefs_of main_v5 (by decide) (by decide))).trans (tail5 m c),
      ((h.1 c).2 main_v6 (Pipeline.mem_restRefs_of main_v6 (by decide) (by decide))).trans (tail6 m c), h.2 c⟩)
    (θ_run_and (run_main m ρ) (unchanged m ρ))

end Cert.KernelIdeal.Tail

end
-- ==== Proof.RefValue.lean ====
/-
  The reference's three results at an index, over the extended reals.
-/
module

public import proofs.«01_k».proof.Proof.Scalars
public import proofs.«01_k».proof.Proof.Gen.ReferenceIdeal.Run

@[expose] public section

set_option maxRecDepth 16384

noncomputable section

open Idealize.ShloMosaic Idealize.ShloMosaic.TcCoe Idealize.SL.Sem

namespace Cert.ReferenceIdeal.RefValue

open Cert.ReferenceIdeal Cert.ReferenceIdeal.Gen Cert.Scalars

/-- The host's score of a batch member's pair (i, j) at rank r: the weights contracted with the scores on both sides. -/
abbrev hostScore (u : FVec Ideal S16x32x512 .f32) (sc : FVec Ideal S16x512x512x16 .f32) : FVec Ideal S16x32x32x16 .f32 :=
  uitofp .f32 (cmpf .ogt (transpose S16x32x32x16 [0, 1, 3, 2]
    (Host.dotGeneral dot_S16x32x512x16_S16x32x512_S16x32x16x32_2_2_13_1_0_0 none
      (Host.dotGeneral dot_S16x32x512_S16x512x512x16_S16x32x512x16_2_1_1_23_0_0 none u sc) u)
      transposes_S16x32x16x32_S16x32x32x16_0_1_3_2)
    (broadcastInDim S16x32x32x16 ![] bcast_S_S16x32x32x16 (constant S_ .f32 0x00000000#32)))

/-- It is the indicator of the double sum. -/
theorem hostScore_apply (u : FVec Ideal S16x32x512 .f32) (sc : FVec Ideal S16x512x512x16 .f32) (b : Fin 16) (i j : Fin 32)
    (r : Fin 16) : hostScore u sc (ix4 b i j r)
      = ind (∑ l : Fin 512, (∑ q : Fin 512, u (ix3 b i q) * sc (ix4 b q l r)) * u (ix3 b j l)) := by
  pointwise
  rfl

/-- The positive logits' indicator, as the host computes it. -/
abbrev hostPos (x : FVec Ideal S16x512x512x16 .f32) : FVec Ideal S16x512x512x16 .f32 :=
  uitofp .f32 (cmpf .ogt x (broadcastInDim S16x512x512x16 ![] bcast_S_S16x512x512x16 (constant S_ .f32 0x00000000#32)))

/-- At an index it is the indicator of the logit. -/
theorem hostPos_apply (x : FVec Ideal S16x512x512x16 .f32) (b : Fin 16) (q l : Fin 512) (r : Fin 16) :
    hostPos x (ix4 b q l r) = ind (x (ix4 b q l r)) := by
  pointwise
  rfl

/-- The host's masked cross entropies. -/
abbrev hostTerms (x t : FVec Ideal S16x512x512x16 .f32) (k : FVec Ideal S16x512x512 .f32) : FVec Ideal S16x512x512x16 .f32 :=
  mulf (addf (subf (maximumf x (broadcastInDim S16x512x512x16 ![] bcast_S_S16x512x512x16 (constant S_ .f32 0x00000000#32)))
      (mulf x t)) (Host.log1p (Host.exp (Host.negf (Host.absf x)))))
    (broadcastInDim S16x512x512x16 ![0, 1, 2, 3] bcast_S16x512x512x1_S16x512x512x16_0_1_2_3
      (broadcastInDim S16x512x512x1 ![0, 1, 2] bcast_S16x512x512_S16x512x512x1_0_1_2 k))

/-- At an index: the cross entropy times the mask. -/
theorem hostTerms_apply (x t : FVec Ideal S16x512x512x16 .f32) (k : FVec Ideal S16x512x512 .f32) (b : Fin 16)
    (q l : Fin 512) (r : Fin 16) :
    hostTerms x t k (ix4 b q l r) = bce (x (ix4 b q l r)) (t (ix4 b q l r)) * k (ix3 b q l) := by
  pointwise
  rfl

/-- The host's loss. -/
abbrev hostLoss (x t : FVec Ideal S16x512x512x16 .f32) (k : FVec Ideal S16x512x512 .f32) : FVec Ideal S_ .f32 :=
  Host.divf (mulf (constant S_ .f32 0x3D800000#32)
    (Host.reduceAdd (hostTerms x t k) (constant S_ .f32 0x00000000#32) reducesTo_S16x512x512x16_S_d0_1_2_3 h_S_))
    (constant S_ .f32 0x41800000#32)

/-- Where the mask is one it is 1/256 of the sum of all the cross entropies. -/
theorem hostLoss_apply (x t : FVec Ideal S16x512x512x16 .f32) (k : FVec Ideal S16x512x512 .f32)
    (hk : ∀ b q l, k (ix3 b q l) = 1) (j : S_.Idx) : hostLoss x t k j
      = (∑ b : Fin 16, ∑ q : Fin 512, ∑ l : Fin 512, ∑ r : Fin 16, bce (x (ix4 b q l r)) (t (ix4 b q l r)))
        * ((1 / 256 : ℝ) : EReal) := by
  have hs : Ideal.hostReduceAdd reducesTo_S16x512x512x16_S_d0_1_2_3 (hostTerms x t k) 0 j
      = ∑ b : Fin 16, ∑ q : Fin 512, ∑ l : Fin 512, ∑ r : Fin 16, bce (x (ix4 b q l r)) (t (ix4 b q l r)) := by
    unfold Ideal.hostReduceAdd
    rw [zero_add, Finset.filter_true_of_mem (fun i _ => funext fun a => a.elim0), sum_idx4]
    refine Finset.sum_congr rfl fun b _ => Finset.sum_congr rfl fun q _ => Finset.sum_congr rfl fun l _ =>
      Finset.sum_congr rfl fun r _ => ?_
    rw [hostTerms_apply, hk, mul_one]
  rw [← hs, ← scale, ← c16, ← d16]
  unfold hostLoss
  generalize hostTerms x t k = v
  pointwise

end Cert.ReferenceIdeal.RefValue

end
-- ==== Proof.Equation.lean ====
/-
  The kernel's results are the reference's, over the extended reals, wherever the mask is one.
-/
module

public import proofs.«01_k».proof.Defs
public import proofs.«01_k».proof.Proof.Gen.KernelIdeal
public import proofs.«01_k».proof.Proof.Gen.ReferenceIdeal
public import proofs.«01_k».proof.Proof.Tail
public import proofs.«01_k».proof.Proof.RefValue

@[expose] public section

set_option maxRecDepth 16384

noncomputable section

open Idealize.ShloMosaic Idealize.ShloMosaic.TcCoe Idealize.SL.Sem

namespace Cert.Equation

open Cert.Scalars Cert.KernelIdeal.Tail Cert.ReferenceIdeal.RefValue

/-- The side condition the precondition's program states. -/
theorem preFacts : Cert.Pre_mask_is_one.Facts where
  bcast_S_S16x512x512 := by decide

/-- A bit made of a decided comparison that is one: the comparison holds. -/
theorem of_bit {p : Prop} [Decidable p] (h : BitVec.ofBool (decide p) = 1#1) : p := by
  by_contra hp
  rw [decide_eq_false hp] at h
  exact absurd h (by decide)

/-- The precondition read at an index: the mask is one there. -/
theorem mask_one (hPre : Cert.Pre_mask_is_one.Facts) (x t : FVec Ideal Cert.Pre_mask_is_one.S16x512x512x16 .f32)
    (k : FVec Ideal Cert.Pre_mask_is_one.S16x512x512 .f32) (u : FVec Ideal Cert.Pre_mask_is_one.S16x32x512 .f32)
    (h : Cert.Pre_mask_is_one.fn (F := Ideal) x t k u = fun _ => 1#1) (b : Fin 16) (s l : Fin 512) :
    k (ix3 b s l) = 1 := by
  have e : Cert.Pre_mask_is_one.fn (F := Ideal) x t k u (ix3 b s l) = BitVec.ofBool (decide (k (ix3 b s l) = 1)) := by
    pointwise [Cert.Pre_mask_is_one.fn]
  rw [h] at e
  exact of_bit e.symm

/-- The host's score at four given coordinates is the kernel's. -/
theorem score_at (u : FVec Ideal Cert.ReferenceIdeal.S16x32x512 .f32)
    (sc : FVec Ideal Cert.ReferenceIdeal.S16x512x512x16 .f32) (f : Fin 16 → Fin 512 → Fin 512 → Fin 16 → Ideal .f32)
    (hf : ∀ b q l r, sc (ix4 b q l r) = f b q l r) (b : Fin 16) (i j : Fin 32) (r : Fin 16) :
    hostScore u sc (ix4 b i j r) = Cert.KernelIdeal.KernelValue.score u f b i j r := by
  rw [hostScore_apply]
  unfold Cert.KernelIdeal.KernelValue.score
  simp only [hf]

/-- The host's score is the kernel's. -/
theorem score_eq (u : FVec Ideal Cert.ReferenceIdeal.S16x32x512 .f32)
    (sc : FVec Ideal Cert.ReferenceIdeal.S16x512x512x16 .f32) (f : Fin 16 → Fin 512 → Fin 512 → Fin 16 → Ideal .f32)
    (hf : ∀ b q l r, sc (ix4 b q l r) = f b q l r) (i : Cert.ReferenceIdeal.S16x32x32x16.Idx) :
    hostScore u sc i = Cert.KernelIdeal.KernelValue.score u f (i 0) (i 1) (i 2) (i 3) := by
  have hi : i = ix4 (i 0) (i 1) (i 2) (i 3) := by
    funext a
    match a with
    | ⟨0, _⟩ => rfl
    | ⟨1, _⟩ => rfl
    | ⟨2, _⟩ => rfl
    | ⟨3, _⟩ => rfl
  exact (congrArg (hostScore u sc) hi).trans (score_at u sc f hf (i 0) (i 1) (i 2) (i 3))

/-- The kernel and the reference, from memories that agree on the arguments and hold a mask of ones: equal results. -/
theorem algebraic : Cert.algebraic_KernelIdeal_ReferenceIdeal_pre_mask_is_one (hKernelIdeal := Cert.KernelIdeal.Gen.facts)
    (hReferenceIdeal := Cert.ReferenceIdeal.Gen.facts) (hPre_mask_is_one := preFacts) := by
  intro m g m' g' hpre hag
  refine ⟨lossOutV m, tgtOut m, posOut m, run m g, ?_⟩
  refine (θ_run (Cert.ReferenceIdeal.defs (F := Ideal)) _ _).mono (fun r h c => ?_) (Cert.ReferenceIdeal.Value.run (F := Ideal) m' g')
  obtain ⟨h14, h20, h29, ha⟩ := h c
  obtain ⟨e0, e1, e2, e3⟩ := hag c
  refine ⟨h14.trans ?_, h20.trans ?_, h29.trans ?_, ha⟩
  · rw [e0, e1, e2]
    funext j
    exact hostLoss_apply _ _ _ (mask_one preFacts _ _ _ _ (hpre c)) j
  · rw [e1, e3]
    funext i
    exact score_eq _ _ _ (fun _ _ _ _ => rfl) i
  · rw [e0, e3]
    funext i
    exact score_eq _ _ _ (fun b q l r => hostPos_apply _ b q l r) i

end Cert.Equation

end
-- ==== Proof.lean ====
/-
  The claims of the certificate, put together: the frames are the generated runs', the reference's counters are none, and
  the value claim is Equation.lean's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The reference runs, its arguments end unchanged, and it has no semaphore whose counter could end elsewhere than zero. -/
theorem frame_reference : Cert.quiescent_ReferenceIdeal (hReferenceIdeal := Cert.ReferenceIdeal.Gen.facts) := fun m g _ =>
  (θ_run (Cert.ReferenceIdeal.defs (F := Ideal)) _ _).mono
    (fun r h => ⟨fun c => (h c).2.2.2, sem_eq_zero_of_no_sems (by decide) r.2⟩)
    (Cert.ReferenceIdeal.Value.run (F := Ideal) m g)

/-- The kernel as published runs on binary floats, with its arguments unchanged and every counter at zero. -/
theorem frame_kernel : Cert.quiescent_Kernel (hKernel := Cert.Kernel.Gen.facts) := fun m g _ =>
  Cert.Kernel.Gen.frame m g

/-- So does it over the extended reals. -/
theorem frame_ideal : Cert.quiescent_KernelIdeal (hKernelIdeal := Cert.KernelIdeal.Gen.facts) := fun m g _ =>
  Cert.KernelIdeal.Gen.frame m g

/-- All the claims. -/
theorem claim : Cert.Claim :=
  ⟨Cert.Kernel.Gen.facts, Cert.KernelIdeal.Gen.facts, Cert.ReferenceIdeal.Gen.facts, Cert.Equation.preFacts,
    frame_kernel, frame_ideal, fun m g _ => frame_ideal m g trivial, frame_reference,
    fun m g _ => frame_reference m g trivial, trivial, Cert.Equation.algebraic⟩

end Cert.Proof

end
